-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x10000 : Shape := ⟨2, ![10000, 10000]⟩
abbrev S10000x128 : Shape := ⟨2, ![10000, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 5
  | .vmem => 6
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128, .f32⟩
  | .hbm, ⟨3, _⟩ => ⟨S1x128, .f32⟩
  | .hbm, ⟨4, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S1x128, .f32⟩
  | .local _ .vmem, ⟨4, _⟩ => ⟨S200x128, .f32⟩
  | .local _ .vmem, ⟨5, _⟩ => ⟨S200x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S10000x10000 : Shape := ⟨2, ![10000, 10000]⟩
abbrev S10000x128 : Shape := ⟨2, ![10000, 128]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128, .f32⟩
  | .hbm, ⟨3, _⟩ => ⟨S10000x128, .f32⟩
  | .hbm, ⟨4, _⟩ => ⟨S1x128, .f32⟩
  | .hbm, ⟨5, _⟩ => ⟨S10000x128, .f32⟩
  | .hbm, ⟨6, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Product.lean ====
/-
  The mathematics of the two programs' arithmetic, over the extended reals, with no memory in it: what one tile of the
  kernel computes and what the reference computes, each read at an index as a sum of products plus a bias.
-/
module

public import proofs.«01_k».proof.Proof.Gen.KernelIdeal.Skeleton
public import proofs.«01_k».proof.Proof.Gen.ReferenceIdeal
public import Idealize.ShloMosaic.Lib.Pointwise
public import Idealize.ShloMosaic.Lib.Pipeline.Value

@[expose] public section

noncomputable section

namespace Cert.Proof.Product

open Idealize.ShloMosaic Idealize.ShloMosaic.Pointwise

/-- The problem's function at row `r` and column `l`: row `r` of `a` times column `l` of `w`, plus entry `l` of the bias. -/
def affine (a : FVec Ideal Cert.KernelIdeal.S10000x10000 .f32) (w : FVec Ideal Cert.KernelIdeal.S10000x128 .f32)
    (b : FVec Ideal Cert.KernelIdeal.S128 .f32) (r : Fin 10000) (l : Fin 128) : EReal :=
  (∑ k : Fin 10000, a (ix2 r k) * w (ix2 k l)) + b (ix1 l)

/-- What the kernel's body stores, at row `r` and column `l` of its tile: row `r` of the tile of the left array times
    column `l` of the right array, plus entry `l` of the bias row. The product starts from a zero accumulator. -/
theorem tile_apply (x : FVec Ideal Cert.KernelIdeal.S200x10000 .f32) (w : FVec Ideal Cert.KernelIdeal.S10000x128 .f32)
    (b : FVec Ideal Cert.KernelIdeal.S1x128 .f32) (r : Fin 200) (l : Fin 128) :
    Cert.KernelIdeal.Gen.k0_pay1 x w b (ix2 r l) = (∑ k : Fin 10000, x (ix2 r k) * w (ix2 k l)) + b (ix2 0 l) := by
  pointwise [Cert.KernelIdeal.Gen.k0_pay1]

/-- The reference's term, the whole product plus the bias repeated over the rows, is `affine` at each index. -/
theorem reference_apply (a : FVec Ideal Cert.ReferenceIdeal.S10000x10000 .f32)
    (w : FVec Ideal Cert.ReferenceIdeal.S10000x128 .f32) (b : FVec Ideal Cert.ReferenceIdeal.S128 .f32)
    (r : Fin 10000) (l : Fin 128) :
    addf (Host.dotGeneral Cert.ReferenceIdeal.dot_S10000x10000_S10000x128_S10000x128_1_0_0_1_n_n none a w)
      (broadcastInDim Cert.ReferenceIdeal.S10000x128 ![0, 1] Cert.ReferenceIdeal.Facts₀.bcast_S1x128_S10000x128_0_1
        (broadcastInDim Cert.ReferenceIdeal.S1x128 ![1] Cert.ReferenceIdeal.Facts₀.bcast_S128_S1x128_1 b)) (ix2 r l)
      = affine a w b r l := by
  pointwise [affine]

/-- The same for the whole array: the reference's term is `affine` read at every index. -/
theorem reference_eq (a : FVec Ideal Cert.ReferenceIdeal.S10000x10000 .f32)
    (w : FVec Ideal Cert.ReferenceIdeal.S10000x128 .f32) (b : FVec Ideal Cert.ReferenceIdeal.S128 .f32) :
    addf (Host.dotGeneral Cert.ReferenceIdeal.dot_S10000x10000_S10000x128_S10000x128_1_0_0_1_n_n none a w)
      (broadcastInDim Cert.ReferenceIdeal.S10000x128 ![0, 1] Cert.ReferenceIdeal.Facts₀.bcast_S1x128_S10000x128_0_1
        (broadcastInDim Cert.ReferenceIdeal.S1x128 ![1] Cert.ReferenceIdeal.Facts₀.bcast_S128_S1x128_1 b))
      = fun i => affine a w b (i 0) (i 1) := by
  funext i
  obtain ⟨r, l, rfl⟩ : ∃ (r : Fin 10000) (l : Fin 128), i = ix2 r l := ⟨i 0, i 1, Shape.idx_ext₂ rfl rfl⟩
  exact reference_apply a w b r l

end Cert.Proof.Product

end
-- ==== Proof.Result.lean ====
/-
  What the idealized kernel's result array holds after the run. Grid point `t` stages rows `200 t … 200 t + 199` of the
  left array, the whole right array and the whole bias row, and writes the same rows of the result; the fifty row
  tiles cover it. So the array ends at `Product.affine` of the three arguments, entry by entry.
-/
module

public import proofs.«01_k».proof.Proof.Product
public import proofs.«01_k».proof.Proof.Gen.KernelIdeal.Value

@[expose] public section

noncomputable section

namespace Cert.Proof.Result

open Idealize.ShloMosaic Idealize.ShloMosaic.TcCoe Idealize.SL.Sem Idealize.ShloMosaic.Pointwise
open Cert.KernelIdeal Cert.KernelIdeal.Gen

variable (m : (ℓ : Loc nD τ sig) → Buf (Elt Ideal) ℓ) (ρ : Dev nD → PrngReg)

/-- Device `c`'s three arguments as launched: the left array, -/
abbrev adj (c : Dev nD) : FVec Ideal S10000x10000 .f32 := m ((c : Thread nD τ).loc main_arg0)
/-- the right array, -/
abbrev weight (c : Dev nD) : FVec Ideal S10000x128 .f32 := m ((c : Thread nD τ).loc main_arg1)
/-- and the bias. -/
abbrev bias (c : Dev nD) : FVec Ideal S128 .f32 := m ((c : Thread nD τ).loc main_arg2)

/-- The array the result is shown to hold: the problem's function of the arguments at every index. -/
def whole (c : Dev nD) : FVec Ideal S10000x128 .f32 :=
  fun i => Product.affine (adj m c) (weight m c) (bias m c) (i 0) (i 1)

/-! ## Which part of its array each window stages -/

/-- The left array's and the result's blocks move one tile down per grid point; the other two stay in place. -/
theorem block_index (t : Fin cfg0.N) :
    win0_0.index t 0 = t.val ∧ win0_0.index t 1 = 0 ∧ win0_1.index t 0 = 0 ∧ win0_1.index t 1 = 0
      ∧ win0_2.index t 0 = 0 ∧ win0_2.index t 1 = 0 ∧ win0_3.index t 0 = t.val ∧ win0_3.index t 1 = 0 :=
  (by decide +kernel : ∀ t : Fin grid0.N,
    win0_0.index t 0 = t.val ∧ win0_0.index t 1 = 0 ∧ win0_1.index t 0 = 0 ∧ win0_1.index t 1 = 0
      ∧ win0_2.index t 0 = 0 ∧ win0_2.index t 1 = 0 ∧ win0_3.index t 0 = t.val ∧ win0_3.index t 1 = 0) t

/-- Row `r` of the tile of grid point `t`, as a row of the whole array. -/
def row (t : Fin cfg0.N) (r : Fin 200) : Fin 10000 :=
  ⟨t.val * 200 + r.val, by have := t.isLt; have hN : cfg0.N = 50 := N_0; omega⟩

/-- Entry `(r, k)` of the left window's block at point `t` is entry `(200 t + r, k)` of the left array. -/
theorem iblk_adj (c : Dev nD) (t : Fin cfg0.N) (r : Fin 200) (k : Fin 10000) :
    (iblk m c 0 t : FVec Ideal S200x10000 .f32) (ix2 r k) = adj m c (ix2 (row t r) k) := by
  obtain ⟨h0, h1, -⟩ := block_index t
  unfold adj iblk
  rw [← V_main_arg0 m c]
  refine congrArg (V m c main_arg0) (Shape.idx_ext₂ ?_ ?_)
  · show win0_0.index t 0 * 200 + 1 * r.val = t.val * 200 + r.val
    rw [h0, Nat.one_mul]
  · show win0_0.index t 1 * 10000 + 1 * k.val = k.val
    rw [h1]; omega

/-- The right window's block is the whole right array at every point. -/
theorem iblk_weight (c : Dev nD) (t : Fin cfg0.N) (k : Fin 10000) (l : Fin 128) :
    (iblk m c 1 t : FVec Ideal S10000x128 .f32) (ix2 k l) = weight m c (ix2 k l) := by
  obtain ⟨-, -, h0, h1, -⟩ := block_index t
  unfold weight iblk
  rw [← V_main_arg1 m c]
  refine congrArg (V m c main_arg1) (Shape.idx_ext₂ ?_ ?_)
  · show win0_1.index t 0 * 10000 + 1 * k.val = k.val
    rw [h0]; omega
  · show win0_1.index t 1 * 128 + 1 * l.val = l.val
    rw [h1]; omega

/-- The bias row that the host lays out before the call holds the bias. -/
theorem V_bias (c : Dev nD) (l : Fin 128) :
    (V m c main_v0 : FVec Ideal S1x128 .f32) (ix2 0 l) = bias m c (ix1 l) := by
  have h : (V m c main_v0 : FVec Ideal S1x128 .f32) = shapeCast S1x128 (bias m c) shapeCasts_S128_S1x128 := by
    unfold bias V
    after_results
    rfl
  rw [h]
  pointwise

/-- The bias window's block is the bias at every point. -/
theorem iblk_bias (c : Dev nD) (t : Fin cfg0.N) (l : Fin 128) :
    (iblk m c 2 t : FVec Ideal S1x128 .f32) (ix2 0 l) = bias m c (ix1 l) := by
  obtain ⟨-, -, -, -, h0, h1, -⟩ := block_index t
  rw [← V_bias m c l]
  unfold iblk
  refine congrArg (V m c main_v0) (Shape.idx_ext₂ ?_ ?_)
  · show win0_2.index t 0 * 1 + 1 * 0 = 0
    rw [h0]
  · show win0_2.index t 1 * 128 + 1 * l.val = l.val
    rw [h1]; omega

/-! ## What each point writes, and the whole array -/

/-- The body's one store covers its buffer and its loads read whole buffers, so it leaves its stored value there. -/
theorem out_eq (x : FVec Ideal S200x10000 .f32) (w : FVec Ideal S10000x128 .f32) (b : FVec Ideal S1x128 .f32) :
    out0_3 (F := Ideal) x w b = k0_pay1 (F := Ideal) x w b := by
  have hz : (![0, 0] : Fin 2 → Nat) = fun _ => 0 := funext fun a => by fin_cases a <;> rfl
  unfold out0_3
  rw [View.canon_unit_zero hz, View.ld_unit_zero hz, View.ld_unit_zero hz, View.ld_unit_zero hz]

/-- At row `r` and column `l` of grid point `t`'s tile, the body stores the problem's function at that row of the array. -/
theorem tile_eq (c : Dev nD) (t : Fin cfg0.N) (r : Fin 200) (l : Fin 128) :
    k0_pay1 (F := Ideal) (iblk m c 0 t) (iblk m c 1 t) (iblk m c 2 t) (ix2 r l)
      = Product.affine (adj m c) (weight m c) (bias m c) (row t r) l := by
  refine (Product.tile_apply _ _ _ r l).trans ?_
  unfold Product.affine
  exact congrArg₂ (· + ·)
    (Finset.sum_congr rfl fun k _ => congrArg₂ (· * ·) (iblk_adj m c t r k) (iblk_weight m c t k l)) (iblk_bias m c t l)

/-- Index `y` of the result's block at point `t` is row `200 t + y₀`, column `y₁` of the array. -/
theorem emb_result (t : Fin cfg0.N) (y : S200x128.Idx) :
    ((win0_3.blk t).view.emb y : S10000x128.Idx) = ix2 (row t (y 0)) (y 1) := by
  obtain ⟨-, -, -, -, -, -, h0, h1⟩ := block_index t
  refine Shape.idx_ext₂ ?_ ?_
  · show win0_3.index t 0 * 200 + 1 * (y 0).val = t.val * 200 + (y 0).val
    rw [h0, Nat.one_mul]
  · show win0_3.index t 1 * 128 + 1 * (y 1).val = (y 1).val
    rw [h1]; omega

/-- Grid point `t` writes back its tile of `whole`. -/
theorem flushed_eq (c : Dev nD) (t : Fin cfg0.N) :
    (dats m 0 c).flushed 3 t = (win0_3.blk t).view.read (Elt Ideal) (whole m c) := by
  rw [Cert.KernelIdeal.Value.flushed3, out_eq]
  have key : ∀ y : S200x128.Idx, k0_pay1 (F := Ideal) (iblk m c 0 t) (iblk m c 1 t) (iblk m c 2 t) y
      = whole m c ((win0_3.blk t).view.emb y) := fun y => by
    have hy : y = ix2 (y 0) (y 1) := Shape.idx_ext₂ rfl rfl
    refine (congrArg _ hy).trans ((tile_eq m c t (y 0) (y 1)).trans ?_)
    exact (congrArg (whole m c) (emb_result t y)).symm
  exact funext key

/-- Row `i` of the result lies in tile `i / 200`: the tiles cover the array, and each is written back. -/
theorem cover (i : S10000x128.Idx) :
    ∃ t : Fin cfg0.N, (cfg0.win 3).flush t = true ∧ i ∈ ((cfg0.win 3).blk t).view.set := by
  have h0 : (i 0 : Nat) < 10000 := (i 0).isLt
  have hN : cfg0.N = 50 := N_0
  have ht : (i 0 : Nat) / 200 < cfg0.N := by omega
  refine ⟨⟨(i 0 : Nat) / 200, ht⟩, flush0_3 _, ?_⟩
  obtain ⟨-, -, -, -, -, -, e0, e1⟩ := block_index ⟨(i 0 : Nat) / 200, ht⟩
  refine Finset.mem_map.mpr ⟨ix2 ⟨(i 0 : Nat) % 200, Nat.mod_lt _ (by omega)⟩ (i 1), Finset.mem_univ _, ?_⟩
  refine Shape.idx_ext₂ ?_ ?_
  · show win0_3.index ⟨(i 0 : Nat) / 200, ht⟩ 0 * 200 + 1 * ((i 0 : Nat) % 200) = (i 0 : Nat)
    rw [e0]; show (i 0 : Nat) / 200 * 200 + _ = _; omega
  · show win0_3.index ⟨(i 0 : Nat) / 200, ht⟩ 1 * 128 + 1 * (i 1 : Nat) = (i 1 : Nat)
    rw [e1]; omega

/-- So the result array ends at `whole`. -/
theorem final (c : Dev nD) : (dats m 0 c).arrAt 3 cfg0.N = whole m c :=
  (dats m 0 c).arrAt_eq_of_cover 3 (whole m c) (fun t _ => flushed_eq m c t) cover

/-- The run of the idealized kernel: the result at `whole`, the arguments unchanged. -/
theorem run : θ_run defs (onTc (τ := τ) (main (F := Ideal))) ⟨m, fun _ => 0, ρ⟩ fun r => ∀ c : Dev nD,
      r.2.mem ((c : Thread nD τ).loc main_v1) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.Proof.Result

end
-- ==== Proof.lean ====
/-
  The certificate's theorem. The kernel's and its idealization's frames are generated; the reference's comes from its
  run, it having no semaphore. The idealization rewrote nothing. The value claim: the kernel's result array and the
  reference's both end at `Product.affine` of the three arguments, so they are equal at every index.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Product
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The idealized reference terminates, leaves its arguments unchanged and, having no semaphore, every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From arguments that agree, the idealized kernel and the idealized reference end with equal results: both hold, at
    row `r` and column `l`, row `r` of the left array times column `l` of the right one, plus entry `l` of the bias. -/
theorem algebraic : Cert.algebraic_KernelIdeal_ReferenceIdeal := by
  intro m ρ m' ρ' _ hagree
  refine ⟨fun c => Result.whole m c, Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  rw [h0, h1, h2]
  exact Product.reference_eq _ _ _

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
